-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4 : Shape := ⟨1, ![4]⟩
abbrev S1x4 : Shape := ⟨2, ![1, 4]⟩
abbrev S1 : Shape := ⟨1, ![1]⟩
abbrev S1x1 : Shape := ⟨2, ![1, 1]⟩

abbrev nBuf : Space → Nat
  | .hbm => 2
  | .vmem => 2
  | .smem => 0
  | _ => 0

abbrev bufTy : (tb : Table) → Fin (tcTables nBuf tb) → BufTy
  | .hbm, ⟨0, _⟩ => ⟨S4, .f32⟩
  | .hbm, ⟨1, _⟩ => ⟨S4, .f32⟩
  | .local _ .vmem, ⟨0, _⟩ => ⟨S4, .f32⟩
  | .local _ .vmem, ⟨1, _⟩ => ⟨S4, .f32⟩
  | _, _ => ⟨S4, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4 : Shape := ⟨1, ![4]⟩
abbrev S_ : Shape := ⟨0, ![]⟩
abbrev S1 : Shape := ⟨1, ![1]⟩

abbrev nBuf : Space → Nat
  | .hbm => 16
  | .vmem => 0
  | .smem => 0
  | _ => 0

abbrev bufTy : (tb : Table) → Fin (tcTables nBuf tb) → BufTy
  | .hbm, ⟨0, _⟩ => ⟨S4, .f32⟩
  | .hbm, ⟨1, _⟩ => ⟨S_, .f32⟩
  | .hbm, ⟨2, _⟩ => ⟨S4, .f32⟩
  | .hbm, ⟨3, _⟩ => ⟨S4, .i32⟩
  | .hbm, ⟨4, _⟩ => ⟨S_, .f32⟩
  | .hbm, ⟨5, _⟩ => ⟨S_, .i32⟩
  | .hbm, ⟨6, _⟩ => ⟨S_, .f32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1, .i32⟩
  | .hbm, ⟨14, _⟩ => ⟨S_, .f32⟩
  | .hbm, ⟨15, _⟩ => ⟨S4, .f32⟩
  | _, _ => ⟨S4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_c : Ref sig .tc := ⟨.hbm, 5, rfl⟩
abbrev main_call0_v1_0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩

abbrev nD : Nat := 1
abbrev τ : Topo := Topo.v7x

variable {F : FTy → Type} [FloatOps F]
-- ==== Proof.FirstMax.lean ====
/-
  The mathematics of the certificate, without any program: of four extended reals, the first that is largest.
  Two ways to find its index are read here: a maximum followed by the least index at which it is reached (the kernel),
  and a scan that keeps a value with its index and moves on only where a later value is strictly larger (the reference).
-/
module

public import Mathlib.Data.EReal.Basic
public import Mathlib.Data.Finset.Fold
public import Mathlib.Data.Fintype.Basic
public import Mathlib.Data.Fintype.Lattice
public import Mathlib.Tactic.FinCases
public import Idealize.ShloMosaic.PureOps
public import Idealize.ShloMosaic.PureOps.Reduce
public import Idealize.ShloMosaic.PureOps.Ideal

@[expose] public section

namespace Cert.Proof.FirstMax

open Idealize.ShloMosaic

/-- The word from which both programs start a maximum denotes `-∞`. -/
theorem ofBits_neg_inf : (FloatOps.ofBits (F := Ideal) .f32 0xFF800000#32) = (⊥ : EReal) := by
  show Ideal.ofBits .f32 0xFF800000#32 = ⊥
  simp [Ideal.ofBits, Ideal.ieee]

/-- `k` is the first index at which `x` takes its largest value. -/
def IsFirst (x : Fin 4 → EReal) (k : Fin 4) : Prop :=
  (∀ j, x j ≤ x k) ∧ ∀ j, j < k → x j < x k

/-- Every four extended reals have such an index. -/
theorem exists_first (x : Fin 4 → EReal) : ∃ k, IsFirst x k := by
  obtain ⟨i, hi⟩ := Finite.exists_max x
  obtain ⟨k, hk, hmin⟩ := WellFounded.has_min (wellFounded_lt (α := Fin 4)) {k | ∀ j, x j ≤ x k} ⟨i, hi⟩
  refine ⟨k, hk, fun j hj => lt_of_le_of_ne (hk j) fun e => hmin j ?_ hj⟩
  intro l
  rw [e]
  exact hk l

/-- The maximum of all four, taken from `-∞`, is the value at that index. -/
theorem fold_max (x : Fin 4 → EReal) (k : Fin 4) (hk : IsFirst x k) :
    (Finset.univ : Finset (Fin 4)).fold max ⊥ x = x k :=
  le_antisymm (Finset.fold_max_le _ |>.2 ⟨bot_le, fun j _ => hk.1 j⟩)
    (Finset.le_fold_max _ |>.2 (.inr ⟨k, Finset.mem_univ k, le_rfl⟩))

/-- The least marked index, as a signed minimum of words in which an unmarked index counts as four:
    it is `k` where `k` is marked and no index before it. -/
theorem fold_min : ∀ (b : Fin 4 → Bool) (k : Fin 4), b k = true → (∀ j, j < k → b j = false) →
    (Finset.univ : Finset (Fin 4)).fold IntOp.minsi 2147483647#32 (fun j => if b j then BitVec.ofNat 32 j.val else 4#32)
      = BitVec.ofNat 32 k.val := by
  decide +kernel

/-- So the least index at which the largest value is reached is the first such index. -/
theorem least_index (x : Fin 4 → EReal) (k : Fin 4) (hk : IsFirst x k) :
    (Finset.univ : Finset (Fin 4)).fold IntOp.minsi 2147483647#32
        (fun j => if decide (x j = x k) then BitVec.ofNat 32 j.val else 4#32) = BitVec.ofNat 32 k.val :=
  fold_min (fun j => decide (x j = x k)) k (decide_eq_true rfl) fun j hj => decide_eq_false (hk.2 j hj).ne

/-- One step of the scan: the pair that was kept, unless the new value is strictly larger. -/
noncomputable def keep (a b : EReal × BitVec 32) : EReal × BitVec 32 := if b.1 ≤ a.1 then a else b

/-- The scan over four values and their indices ends at the first index of the largest. -/
theorem scan (x : Fin 4 → EReal) (k : Fin 4) (hk : IsFirst x k) :
    (keep (keep (keep (x 0, 0#32) (x 1, 1#32)) (x 2, 2#32)) (x 3, 3#32)).2 = BitVec.ofNat 32 k.val := by
  obtain ⟨hle, hlt⟩ := hk
  unfold keep
  fin_cases k
  · simp [show x 1 ≤ x 0 from hle 1, show x 2 ≤ x 0 from hle 2, show x 3 ≤ x 0 from hle 3]
  · simp [not_le.2 (show x 0 < x 1 from hlt 0 (by decide)), show x 2 ≤ x 1 from hle 2, show x 3 ≤ x 1 from hle 3]
  · by_cases h : x 1 ≤ x 0
    · simp [h, not_le.2 (show x 0 < x 2 from hlt 0 (by decide)), show x 3 ≤ x 2 from hle 3]
    · simp [h, not_le.2 (show x 1 < x 2 from hlt 1 (by decide)), show x 3 ≤ x 2 from hle 3]
  · have h0 := not_le.2 (show x 0 < x 3 from hlt 0 (by decide))
    have h1 := not_le.2 (show x 1 < x 3 from hlt 1 (by decide))
    have h2 := not_le.2 (show x 2 < x 3 from hlt 2 (by decide))
    split_ifs <;> simp_all

end Cert.Proof.FirstMax
-- ==== Proof.KernelValue.lean ====
/-
  What the kernel leaves in its result array, over the extended reals: a one at the first index of the largest argument
  element, a zero elsewhere.
-/
module

public import proofs.«01_k».proof.Proof.FirstMax
public import proofs.«01_k».proof.Proof.Gen.KernelIdeal.Frame
public import Idealize.ShloMosaic.PureOps.Ideal
public import Idealize.ShloMosaic.Lib.Pointwise
public import Idealize.ShloMosaic.Lib.Pipeline.ValueKit

@[expose] public section

noncomputable section

namespace Cert.Proof.KernelValue

open Idealize.ShloMosaic Idealize.ShloMosaic.TcCoe Idealize.SL.Sem
open Cert.KernelIdeal Cert.KernelIdeal.Gen Cert.Proof.FirstMax

/-- Selecting by an equality of two small words is a case distinction on the indices. -/
theorem select_cmpi {α : Type} (i k : Fin 4) (p q : α) :
    Scalar.select (IntOp.cmpi .eq (BitVec.ofNat 32 i.val) (BitVec.ofNat 32 k.val)) p q = if i = k then p else q := by
  have key : ∀ i k : Fin 4, IntOp.cmpi .eq (BitVec.ofNat 32 i.val) (BitVec.ofNat 32 k.val) = if i = k then 1#1 else 0#1 := by
    decide +kernel
  rw [key]
  by_cases h : i = k <;> simp [Scalar.select, h]

/-- The body's result, element by element: one at the first index of the largest element, zero elsewhere. -/
theorem pay_apply (x : Vec Ideal S4 .f32) (k : Fin 4) (hk : IsFirst (fun j => x (ix1 j)) k) (i : Fin 4) :
    k0_pay1 (F := Ideal) x (ix1 i) = if i = k then 1 else 0 := by
  have hi : ∀ a : Fin 4, List.foldl (fun n (b : Fin 2) => n * (![1, 4] b) + (ix2 (0 : Fin 1) a b).val) 0 [1] = a.val :=
    fun a => (show 0 * 4 + a.val = a.val by omega)
  have hm := fold_max _ k hk
  have hl := least_index _ k hk
  simp only [decide_eq_true_eq] at hl
  unfold k0_pay1
  simp only [pointwise, hi]
  rw [show Ideal.ofBits .f32 0xFF800000#32 = ⊥ from ofBits_neg_inf, hm, hl, select_cmpi]

variable (m : (ℓ : Loc nD τ sig) → Buf (Elt Ideal) ℓ)

/-- The result array after the run: the body's result on the argument array. -/
theorem final (c : Dev nD) :
    (dats m 0 c).arrAt 1 (cfgs 0).N = k0_pay1 (F := Ideal) (m ((c.tc : Thread nD τ).loc main_arg0)) := by
  refine (dats m 0 c).arrAt_eq_of_covers 1 _ (by decide +kernel) fun t hf y => ?_
  blk_simp
  rw [after0_1]
  frame_out
  have hx : iblk m c 0 t = m ((c.tc : Thread nD τ).loc main_arg0) := by
    funext j
    exact congrArg (m ((c.tc : Thread nD τ).loc main_arg0))
      (funext fun a => Fin.ext (show 0 * win0_0.size a + 1 * (j a).val = (j a).val by omega))
  have hy : ((View.whole main_v0).slice (win0_1.rect t)).emb y = y :=
    funext fun a => Fin.ext (show 0 * win0_1.size a + 1 * (y a).val = (y a).val by omega)
  rw [hy]
  exact congrFun (congrArg (k0_pay1 (F := Ideal)) hx) y

end Cert.Proof.KernelValue

end
-- ==== Proof.ReferenceValue.lean ====
/-
  What the reference leaves in its result array, over the extended reals: its arg-max is the first index of the largest
  argument element, and its scatter puts a one there into an array of zeros.
-/
module

public import proofs.«01_k».proof.Proof.FirstMax
public import proofs.«01_k».proof.Proof.Gen.ReferenceIdeal
public import Idealize.ShloMosaic.PureOps.Ideal
public import Idealize.ShloMosaic.PureOps.Ideal.Laws
public import Idealize.ShloMosaic.Lib.Pointwise
public import Idealize.ShloMosaic.Lib.Routing.OpsOne

@[expose] public section

noncomputable section

namespace Cert.Proof.ReferenceValue

open Idealize.ShloMosaic Idealize.ShloMosaic.TcCoe Idealize.SL.Sem
open Cert.ReferenceIdeal Cert.ReferenceIdeal.Gen Cert.Proof.FirstMax

/-- A step of the arg-max whose new index is the larger keeps the pair it has, unless the new value is strictly larger. -/
theorem step_eq_keep (a b : EReal × BitVec 32) (h : IntOp.cmpi .slt a.2 b.2 = 1#1) :
    reducer_argmax_f32_i32 (F := Ideal) a b = keep a b := by
  obtain ⟨v, w⟩ := a
  obtain ⟨v', w'⟩ := b
  simp only at h
  rcases lt_trichotomy v' v with hl | he | hg
  · simp [reducer_argmax_f32_i32, keep, Ideal.cmpf_def, Ideal.cmp, Scalar.select, IntOp.ori, IntOp.andi, hl, hl.le, hl.ne']
  · subst he
    simp [reducer_argmax_f32_i32, keep, Ideal.cmpf_def, Ideal.cmp, Scalar.select, IntOp.ori, IntOp.andi, h]
  · simp [reducer_argmax_f32_i32, keep, Ideal.cmpf_def, Ideal.cmp, Scalar.select, IntOp.ori, IntOp.andi, hg.not_ge, hg.not_gt,
      hg.ne]

/-- The first step, from `-∞` at index zero, takes the first element. -/
theorem step_first (v : EReal) : reducer_argmax_f32_i32 (F := Ideal) ((⊥ : EReal), 0#32) (v, 0#32) = (v, 0#32) := by
  have e : IntOp.cmpi .slt (0#32) (0#32) = 0#1 := by decide
  simp [reducer_argmax_f32_i32, Ideal.cmpf_def, Ideal.cmp, Scalar.select, IntOp.ori, IntOp.andi, e]

/-- The pairs over which the arg-max runs: the four elements with their indices, in order. -/
theorem fiber (x : FVec Ideal S4 .f32) (j : S_.Idx) :
    Host.argReduceFiber x (iotaInDim S4 32 0) reducesTo_S4_S_d0 j
      = [(x (ix1 0), 0#32), (x (ix1 1), 1#32), (x (ix1 2), 2#32), (x (ix1 3), 3#32)] := by
  unfold Host.argReduceFiber
  rw [List.filter_eq_self.2 fun n _ => decide_eq_true (funext fun a => a.elim0)]
  have e : ∀ n : Fin S4.numel, S4.rowMajor.symm n = ix1 (n.cast (by decide : S4.numel = 4)) := Routing.symm1
  simp only [e]
  rfl

/-- The reference's arg-max is the first index of the largest element. -/
theorem argmax_eq (x : FVec Ideal S4 .f32) (k : Fin 4) (hk : IsFirst (fun j => x (ix1 j)) k) (j : S_.Idx) :
    (Host.argReduce reducer_argmax_f32_i32 x (iotaInDim S4 32 0) (constant S_ .f32 0xFF800000#32) (constantI S_ 32 0#32)
      reducesTo_S4_S_d0 h_S_ j).2 = BitVec.ofNat 32 k.val := by
  rw [Ideal.argReduce_eq_reduce2, Host.reduce2_eq_foldl_fiber, fiber, ← scan _ k hk]
  have e : (constant (F := Ideal) S_ .f32 0xFF800000#32 (Shape.Idx.first h_S_), constantI S_ 32 0#32 (Shape.Idx.first h_S_))
      = ((⊥ : EReal), 0#32) := Prod.ext ofBits_neg_inf rfl
  have kw : ∀ a b : EReal × BitVec 32, (keep a b).2 = a.2 ∨ (keep a b).2 = b.2 := fun a b => by
    unfold keep; split_ifs <;> simp
  rw [e]
  simp only [List.foldl_cons, List.foldl_nil]
  rw [step_first, step_eq_keep _ (x (ix1 1), 1#32) (by decide : IntOp.cmpi .slt 0#32 1#32 = 1#1), step_eq_keep _ (x (ix1 2), 2#32),
    step_eq_keep _ (x (ix1 3), 3#32)]
  · rcases kw (keep (x (ix1 0), 0#32) (x (ix1 1), 1#32)) (x (ix1 2), 2#32) with h | h <;> rw [h]
    · rcases kw (x (ix1 0), 0#32) (x (ix1 1), 1#32) with h | h <;> rw [h] <;> rfl
    · rfl
  · rcases kw (x (ix1 0), 0#32) (x (ix1 1), 1#32) with h | h <;> rw [h] <;> rfl

/-- The index as the scatter takes it: a negative one would count from the end, and this one is not negative. -/
theorem wrap_eq (k : Fin 4) :
    Scalar.select (IntOp.cmpi .slt (BitVec.ofNat 32 k.val) 0#32) (IntOp.addi (BitVec.ofNat 32 k.val) 4#32)
      (BitVec.ofNat 32 k.val) = BitVec.ofNat 32 k.val := by
  revert k; decide +kernel

/-- Read as a signed number the word of a small index is that index. -/
theorem toInt_small (k : Fin 4) : (BitVec.ofNat 32 k.val).toInt = (k.val : Int) := by
  revert k; decide +kernel

/-- The scatter of one update at one index: the update there, the operand elsewhere. -/
theorem scatter_apply (z : FVec Ideal S4 .f32) (ix : IVec S1 32) (u : FVec Ideal S_ .f32) (k : Fin 4)
    (hix : ix (ix1 0) = BitVec.ofNat 32 k.val) (i : Fin 4) :
    Host.scatter scatter_S4_S1_S__n_0_0_0 (fun _ b => b) z ix u (ix1 i) = if i = k then u ix0 else z (ix1 i) := by
  have hk : (ix (ValueIdx.ix1 0)).toInt = (k.val : Int) :=
    (congrArg BitVec.toInt (show ix (ValueIdx.ix1 0) = BitVec.ofNat 32 k.val from hix)).trans (toInt_small k)
  have lands : ∀ j : S_.Idx, scatter_S4_S1_S__n_0_0_0.resultIdx? j ix = some (ix1 i) ↔ i = k := fun j =>
    (by rw [ValueIdx.eq_ix0 j]; exact Routing.lands_one scatter_S4_S1_S__n_0_0_0 rfl rfl ix k hk i)
  by_cases h : i = k
  · rw [if_pos h]
    exact Routing.scatter_set_hit _ z ix u _ _ (fun j _ => congrArg u (funext fun a => a.elim0)) ix0 ((lands ix0).2 h)
  · rw [if_neg h]
    exact Routing.scatter_set_miss _ z ix u _ fun j hj => h ((lands j).1 hj)

/-- The reference's arg-max, as an array of rank zero. -/
def argmax (x : FVec Ideal S4 .f32) : IVec S_ 32 := fun j =>
  (Host.argReduce reducer_argmax_f32_i32 x (iotaInDim S4 32 0) (constant S_ .f32 0xFF800000#32) (constantI S_ 32 0#32)
    reducesTo_S4_S_d0 h_S_ j).2

/-- The reference's result: zeros, with a one scattered to the arg-max. -/
def out (x : FVec Ideal S4 .f32) : FVec Ideal S4 .f32 :=
  Host.scatter scatter_S4_S1_S__n_0_0_0 (fun _ b => b) (broadcastInDim S4 ![] bcast_S_S4 (constant S_ .f32 0x00000000#32))
    (broadcastInDim S1 ![] bcast_S_S1
      (select (cmpi .slt (argmax x) (constantI S_ 32 0#32)) (addi (argmax x) (constantI S_ 32 4#32)) (argmax x)))
    (constant S_ .f32 0x3F800000#32)

/-- The reference's result, element by element: one at the first index of the largest element, zero elsewhere. -/
theorem out_apply (x : FVec Ideal S4 .f32) (k : Fin 4) (hk : IsFirst (fun j => x (ix1 j)) k) (i : Fin 4) :
    out x (ix1 i) = if i = k then 1 else 0 := by
  have ha : ∀ j, argmax x j = BitVec.ofNat 32 k.val := argmax_eq x k hk
  unfold out
  rw [scatter_apply _ _ _ k ?_ i]
  · simp only [pointwise]
  · simp only [pointwise, ha]
    exact wrap_eq k

end Cert.Proof.ReferenceValue

end
-- ==== Proof.lean ====
/-
  The certificate of the one-hot arg-max of four numbers: the two programs' frames, and that over the extended reals the
  kernel computes the function that the reference defines. What each result array holds is KernelValue.lean's and
  ReferenceValue.lean's; here they meet.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Claim
public import Idealize.ShloMosaic.Lib.Quiescent
public import Idealize.ShloMosaic.Lib.StableHlo.RunHlo
public import proofs.«01_k».proof.Proof.KernelValue
public import proofs.«01_k».proof.Proof.ReferenceValue

@[expose] public section

noncomputable section

namespace Cert.Proof

open Idealize.ShloMosaic Idealize.SL.Sem Cert.Kernel

/-- The reference runs, leaves its argument as it was and every counter at zero. -/
theorem reference_frame : Cert.quiescent_ReferenceIdeal := by
  intro m g _
  have h : θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) := by
    hlo_run
  exact (θ_run Cert.ReferenceIdeal.defs _ _).mono (fun r hr => ⟨hr, sem_eq_zero_of_no_sems (by decide) r.2⟩) h

/-- The two results are one function of the argument: both are one at the first index of the largest element. -/
theorem out_eq_pay (x : FVec Ideal Cert.KernelIdeal.S4 .f32) :
    ReferenceValue.out x = Cert.KernelIdeal.Gen.k0_pay1 (F := Ideal) x := by
  obtain ⟨k, hk⟩ := FirstMax.exists_first fun j => x (ix1 j)
  funext i
  rw [show i = ix1 (i 0) from ValueIdx.eq_ix1 i]
  exact (ReferenceValue.out_apply x k hk (i 0)).trans (KernelValue.pay_apply x k hk (i 0)).symm

/-- Over the extended reals kernel and reference end with the same result, for every argument. -/
theorem algebraic : Cert.algebraic_KernelIdeal_ReferenceIdeal := by
  pair_intro
  · run_from Cert.KernelIdeal.Gen.run_main m g
  · hlo_run
    rw [KernelValue.final]
    exact out_eq_pay (m ((c.tc : Thread Cert.KernelIdeal.nD Cert.KernelIdeal.τ).loc Cert.KernelIdeal.main_arg0))

/-- All five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, algebraic⟩

end Cert.Proof

end
